-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_one_nearest [hKernelIdeal : Cert.KernelIdeal.Facts] [hReferenceIdeal : Cert.ReferenceIdeal.Facts] [hOn_one_nearest : Cert.On_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![131072]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v1) i = v0 c i)
          ∧ (∀ i : (⟨1, ![131072]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v2) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![131072]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v17) i = v0 c i)
          ∧ (∀ i : (⟨1, ![131072]⟩ : Shape).Idx, (Cert.On_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v20) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_one_nearest : Cert.On_one_nearest.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_one_nearest (hKernelIdeal := hKernelIdeal) (hReferenceIdeal := hReferenceIdeal) (hOn_one_nearest := hOn_one_nearest)
-- ==== On_one_nearest.lean ====
abbrev S131072x32 : Shape := ⟨2, ![131072, 32]⟩
abbrev S512x32 : Shape := ⟨2, ![512, 32]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩
abbrev S32x512 : Shape := ⟨2, ![32, 512]⟩

class Facts : Prop where
  reducesTo_S131072x32_S131072_d1 : S131072x32.ReducesTo [1] S131072
  h_S_ : 0 < S_.numel
  bcast_S131072_S131072x1_0 : S131072.BroadcastsInDim S131072x1 (![0] : Fin 1 → Fin S131072x1.rank)
  reducesTo_S512x32_S512_d1 : S512x32.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x32_S32x512_1_0 : S512x32.Transposes [1, 0] S32x512
  bcast_S_S131072x512 : S_.BroadcastsInDim S131072x512 (![] : Fin 0 → Fin S131072x512.rank)
  reducesTo_S131072x512_S131072_d1 : S131072x512.ReducesTo [1] S131072
  bcast_S_S131072 : S_.BroadcastsInDim S131072 (![] : Fin 0 → Fin S131072.rank)
  dot_S131072x32_S32x512_S131072x512_1_0_0_1_n_n_wf : DotDims.WF S131072x32 S32x512 S131072x512 [1] [0] [0] [1] [] []

variable [Facts]

def dot_S131072x32_S32x512_S131072x512_1_0_0_1_n_n : DotDims S131072x32 S32x512 S131072x512 where
  lhsContracting := [1]
  rhsContracting := [0]
  lhsNonContracting := [0]
  rhsNonContracting := [1]
  lhsBatch := []
  rhsBatch := []
  wf := dot_S131072x32_S32x512_S131072x512_1_0_0_1_n_n_wf
def fn_where {F : FTy → Type} [FloatOps F] (arg0 : IVec S131072x512 1) (arg1 : FVec F S_ .f32) (arg2 : FVec F S_ .f32) : FVec F S131072x512 .f32 :=
  let v0 : FVec F S131072x512 .f32 := broadcastInDim S131072x512 ![] bcast_S_S131072x512 arg1
  let v1 : FVec F S131072x512 .f32 := broadcastInDim S131072x512 ![] bcast_S_S131072x512 arg2
  let v2 : FVec F S131072x512 .f32 := select arg0 v0 v1
  v2

def fn_part1 {F : FTy → Type} [FloatOps F] (main_v16 : FVec F S131072x512 .f32) (main_v18 : FVec F S131072x1 .f32) : IVec S131072 1 × IVec S131072 1 :=
  let main_v19 : FVec F S131072x512 .f32 := broadcastInDim S131072x512 ![0, 1] bcast_S131072x1_S131072x512_0_1 main_v18
  let main_v20 : IVec S131072x512 1 := cmpf .oeq main_v16 main_v19
  let main_cst_4 : FVec F S_ .f32 := constant S_ .f32 0x3F800000#32
  let main_cst_5 : FVec F S_ .f32 := constant S_ .f32 0x00000000#32
  let main_v21 : FVec F S131072x512 .f32 := fn_where (F := F) main_v20 main_cst_4 main_cst_5
  let main_v22 : FVec F S131072x512 .f32 := id main_v21
  let main_cst_6 : FVec F S_ .f32 := constant S_ .f32 0x00000000#32
  let main_v23 : FVec F S131072 .f32 := (fun x v => Host.reduceAdd x v reducesTo_S131072x512_S131072_d1 h_S_) main_v22 main_cst_6
  let main_cst_7 : FVec F S_ .f32 := constant S_ .f32 0x3F800000#32
  let main_v24 : FVec F S131072 .f32 := broadcastInDim S131072 ![] bcast_S_S131072 main_cst_7
  let main_v25 : IVec S131072 1 := cmpf .oeq main_v23 main_v24
  let main_c : IVec S_ 1 := constantI S_ 1 1#1
  let main_v26 : IVec S131072 1 := broadcastInDim S131072 ![] bcast_S_S131072 main_c
  (main_v25, main_v26)

def fn {F : FTy → Type} [FloatOps F] (main_arg0 : FVec F S131072x32 .f32) (main_arg1 : FVec F S512x32 .f32) : IVec S131072 1 × IVec S131072 1 :=
  let main_v0 : FVec F S131072x32 .f32 := mulf main_arg0 main_arg0
  let main_cst : FVec F S_ .f32 := constant S_ .f32 0x00000000#32
  let main_v1 : FVec F S131072 .f32 := (fun x v => Host.reduceAdd x v reducesTo_S131072x32_S131072_d1 h_S_) main_v0 main_cst
  let main_v2 : FVec F S131072x1 .f32 := broadcastInDim S131072x1 ![0] bcast_S131072_S131072x1_0 main_v1
  let main_v3 : FVec F S512x32 .f32 := mulf main_arg1 main_arg1
  let main_cst_0 : FVec F S_ .f32 := constant S_ .f32 0x00000000#32
  let main_v4 : FVec F S512 .f32 := (fun x v => Host.reduceAdd x v reducesTo_S512x32_S512_d1 h_S_) main_v3 main_cst_0
  let main_v5 : FVec F S1x512 .f32 := broadcastInDim S1x512 ![1] bcast_S512_S1x512_1 main_v4
  let main_v6 : FVec F S131072x512 .f32 := broadcastInDim S131072x512 ![0, 1] bcast_S131072x1_S131072x512_0_1 main_v2
  let main_v7 : FVec F S131072x512 .f32 := broadcastInDim S131072x512 ![0, 1] bcast_S1x512_S131072x512_0_1 main_v5
  let main_v8 : FVec F S131072x512 .f32 := addf main_v6 main_v7
  let main_v9 : FVec F S32x512 .f32 := (transpose S32x512 [1, 0] · transposes_S512x32_S32x512_1_0) main_arg1
  let main_v10 : FVec F S131072x512 .f32 := (fun l r => Host.dotGeneral dot_S131072x32_S32x512_S131072x512_1_0_0_1_n_n none l r) main_arg0 main_v9
  let main_cst_1 : FVec F S_ .f32 := constant S_ .f32 0x40000000#32
  let main_v11 : FVec F S131072x512 .f32 := broadcastInDim S131072x512 ![] bcast_S_S131072x512 main_cst_1
  let main_v12 : FVec F S131072x512 .f32 := mulf main_v11 main_v10
  let main_v13 : FVec F S131072x512 .f32 := subf main_v8 main_v12
  let main_cst_2 : FVec F S_ .f32 := constant S_ .f32 0x00000000#32
  let main_v14 : FVec F S131072x512 .f32 := broadcastInDim S131072x512 ![] bcast_S_S131072x512 main_cst_2
  let main_v15 : FVec F S131072x512 .f32 := maximumf main_v13 main_v14
  let main_v16 : FVec F S131072x512 .f32 := Host.sqrt main_v15
  let main_cst_3 : FVec F S_ .f32 := constant S_ .f32 0x7F800000#32
  let main_v17 : FVec F S131072 .f32 := (fun x v => Host.reduce FloatOps.minimumf x v reducesTo_S131072x512_S131072_d1 h_S_) main_v16 main_cst_3
  let main_v18 : FVec F S131072x1 .f32 := broadcastInDim S131072x1 ![0] bcast_S131072_S131072x1_0 main_v17
  fn_part1 (F := F) main_v16 main_v18
-- ==== Kernel.lean ====
abbrev S131072x32 : Shape := ⟨2, ![131072, 32]⟩
abbrev S512x32 : Shape := ⟨2, ![512, 32]⟩
abbrev S16x1x8192 : Shape := ⟨3, ![16, 1, 8192]⟩
abbrev S8192x32 : Shape := ⟨2, ![8192, 32]⟩
abbrev S1x1x8192 : Shape := ⟨3, ![1, 1, 8192]⟩
abbrev S512 : Shape := ⟨1, ![512]⟩
abbrev S512x1 : Shape := ⟨2, ![512, 1]⟩
abbrev S512x8192 : Shape := ⟨2, ![512, 8192]⟩
abbrev S8192 : Shape := ⟨1, ![8192]⟩
abbrev S1x8192 : Shape := ⟨2, ![1, 8192]⟩
abbrev S1x512 : Shape := ⟨2, ![1, 512]⟩
abbrev S8192x1 : Shape := ⟨2, ![8192, 1]⟩
abbrev S131072 : Shape := ⟨1, ![131072]⟩

abbrev nBuf : Space → Nat
  | .hbm => 6
  | .vmem => 7
  | .smem => 0
  | _ => 0

abbrev bufTy : (tb : Table) → Fin (tcTables nBuf tb) → BufTy
  | .hbm, ⟨0, _⟩ => ⟨S131072x32, .f32⟩
  | .hbm, ⟨1, _⟩ => ⟨S512x32, .f32⟩
  | .hbm, ⟨2, _⟩ => ⟨S16x1x8192, .i32⟩
  | .hbm, ⟨3, _⟩ => ⟨S16x1x8192, .f32⟩
  | .hbm, ⟨4, _⟩ => ⟨S131072, .i32⟩
  | .hbm, ⟨5, _⟩ => ⟨S131072, .f32⟩
  | .local _ .vmem, ⟨0, _⟩ => ⟨S8192x32, .f32⟩
  | .local _ .vmem, ⟨1, _⟩ => ⟨S8192x32, .f32⟩
  | .local _ .vmem, ⟨2, _⟩ => ⟨S512x32, .f32⟩
  | .local _ .vmem, ⟨3, _⟩ => ⟨S1x1x8192, .i32⟩
  | .local _ .vmem, ⟨4, _⟩ => ⟨S1x1x8192, .i32⟩
  | .local _ .vmem, ⟨5, _⟩ => ⟨S1x1x8192, .f32⟩
  | .local _ .vmem, ⟨6, _⟩ => ⟨S1x1x8192, .f32⟩
  | _, _ => ⟨S131072x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S131072x32 : Shape := ⟨2, ![131072, 32]⟩
abbrev S512x32 : Shape := ⟨2, ![512, 32]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩
abbrev S32x512 : Shape := ⟨2, ![32, 512]⟩
abbrev S131072x1x1 : Shape := ⟨3, ![131072, 1, 1]⟩
abbrev S1 : Shape := ⟨1, ![1]⟩
abbrev S1x1x1 : Shape := ⟨3, ![1, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S131072x32, .f32⟩
  | .hbm, ⟨1, _⟩ => ⟨S512x32, .f32⟩
  | .hbm, ⟨2, _⟩ => ⟨S131072x32, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x32, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S131072x512, .f32⟩
  | .hbm, ⟨13, _⟩ => ⟨S32x512, .f32⟩
  | .hbm, ⟨14, _⟩ => ⟨S131072x512, .f32⟩
  | .hbm, ⟨15, _⟩ => ⟨S_, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .f32⟩
  | .hbm, ⟨22, _⟩ => ⟨S131072x512, .f32⟩
  | .hbm, ⟨23, _⟩ => ⟨S131072x512, .i32⟩
  | .hbm, ⟨24, _⟩ => ⟨S_, .f32⟩
  | .hbm, ⟨25, _⟩ => ⟨S_, .i32⟩
  | .hbm, ⟨26, _⟩ => ⟨S131072, .f32⟩
  | .hbm, ⟨27, _⟩ => ⟨S131072, .i32⟩
  | .hbm, ⟨28, _⟩ => ⟨S131072x1, .i32⟩
  | .hbm, ⟨29, _⟩ => ⟨S_, .i32⟩
  | .hbm, ⟨30, _⟩ => ⟨S131072x1, .i32⟩
  | .hbm, ⟨31, _⟩ => ⟨S131072x1, .i1⟩
  | .hbm, ⟨32, _⟩ => ⟨S_, .i32⟩
  | .hbm, ⟨33, _⟩ => ⟨S131072x1, .i32⟩
  | .hbm, ⟨34, _⟩ => ⟨S131072x1, .i32⟩
  | .hbm, ⟨35, _⟩ => ⟨S131072x1, .i32⟩
  | .hbm, ⟨36, _⟩ => ⟨S131072x1x1, .i32⟩
  | .hbm, ⟨37, _⟩ => ⟨S1, .i32⟩
  | .hbm, ⟨38, _⟩ => ⟨S_, .i32⟩
  | .hbm, ⟨39, _⟩ => ⟨S131072x1x1, .i32⟩
  | .hbm, ⟨40, _⟩ => ⟨S131072x1x1, .i1⟩
  | .hbm, ⟨41, _⟩ => ⟨S1x1x1, .i32⟩
  | .hbm, ⟨42, _⟩ => ⟨S131072x1x1, .i32⟩
  | .hbm, ⟨43, _⟩ => ⟨S131072x1x1, .i1⟩
  | .hbm, ⟨44, _⟩ => ⟨S131072x1x1, .i1⟩
  | .hbm, ⟨45, _⟩ => ⟨S_, .i1⟩
  | .hbm, ⟨46, _⟩ => ⟨S131072x1, .i1⟩
  | .hbm, ⟨47, _⟩ => ⟨S131072x1, .f32⟩
  | .hbm, ⟨48, _⟩ => ⟨S_, .f32⟩
  | .hbm, ⟨49, _⟩ => ⟨S131072x1, .f32⟩
  | .hbm, ⟨50, _⟩ => ⟨S131072x1, .f32⟩
  | .hbm, ⟨51, _⟩ => ⟨S131072, .f32⟩
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_cst : Ref sig .tc := ⟨.hbm, 48, rfl⟩
abbrev main_call1_v14 : Ref sig .tc := ⟨.hbm, 49, rfl⟩
abbrev main_v19 : Ref sig .tc := ⟨.hbm, 50, rfl⟩
abbrev main_v20 : Ref sig .tc := ⟨.hbm, 51, rfl⟩

abbrev nD : Nat := 1
abbrev τ : Topo := Topo.v7x

variable {F : FTy → Type} [FloatOps F]
-- ==== Proof.RefRun.lean ====
/-
  The run of the reference program: a straight line of host operations, with the two functions it calls (the index of
  the least entry of each row, and the entry of each row at a given index) written out in place. This module states
  what the two result buffers hold at the end of every run, as functions of the two arguments' contents, over any
  float values.
-/
module

public import proofs.«01_k».proof.Defs
public import proofs.«01_k».proof.Proof.Gen.ReferenceIdeal
public import Idealize.ShloMosaic.Lib.StableHlo.Run
public import Idealize.ShloMosaic.Lib.StableHlo.RunRead

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- The matrix of distances: row `n`, column `j` is the distance of point `n` from code `j`. -/
def distances (x : FVec F S131072x32 .f32) (c : FVec F S512x32 .f32) : FVec F S131072x512 .f32 :=
  Host.sqrt (maximumf
    (subf
      (addf
        (broadcastInDim S131072x512 ![0, 1] bcast_S131072x1_S131072x512_0_1
          (broadcastInDim S131072x1 ![0] bcast_S131072_S131072x1_0
            (Host.reduceAdd (mulf x x) (constant S_ .f32 0x00000000#32) reducesTo_S131072x32_S131072_d1 h_S_)))
        (broadcastInDim S131072x512 ![0, 1] bcast_S1x512_S131072x512_0_1
          (broadcastInDim S1x512 ![1] bcast_S512_S1x512_1
            (Host.reduceAdd (mulf c c) (constant S_ .f32 0x00000000#32) reducesTo_S512x32_S512_d1 h_S_))))
      (mulf (broadcastInDim S131072x512 ![] bcast_S_S131072x512 (constant S_ .f32 0x40000000#32))
        (Host.dotGeneral dot_S131072x32_S32x512_S131072x512_1_0_0_1_n_n none x
          (transpose S32x512 [1, 0] c transposes_S512x32_S32x512_1_0))))
    (broadcastInDim S131072x512 ![] bcast_S_S131072x512 (constant S_ .f32 0x00000000#32)))

/-- The column of each row's least entry, as the reference takes it. -/
def nearest (d : FVec F S131072x512 .f32) : IVec S131072 32 := fun j =>
  (Host.argReduce reducer_argmin_f32_i32 d (iotaInDim S131072x512 32 1) (constant S_ .f32 0x7F800000#32)
    (constantI S_ 32 0#32) reducesTo_S131072x512_S131072_d1 h_S_ j).2

/-- A column number with 512 added where it is negative. -/
def wrapped (i : IVec S131072x1 32) : IVec S131072x1 32 :=
  select (cmpi .slt i (broadcastInDim S131072x1 ![] bcast_S_S131072x1 (constantI S_ 32 0#32)))
    (addi i (broadcastInDim S131072x1 ![] bcast_S_S131072x1 (constantI S_ 32 512#32))) i

/-- The entry of each row at a column number of that row; no number where the column is out of range. -/
def entriesAt (d : FVec F S131072x512 .f32) (p : IVec S131072x1x1 32) : FVec F S131072x1 .f32 :=
  select
    (Host.reduce IntOp.andi
      (andi (cmpi .sge p (broadcastInDim S131072x1x1 ![] bcast_S_S131072x1x1 (constantI S_ 32 0#32)))
        (cmpi .sle p (broadcastInDim S131072x1x1 ![0, 1, 2] bcast_S1x1x1_S131072x1x1_0_1_2
          (broadcastInDim S1x1x1 ![2] bcast_S1_S1x1x1_2 (constantI S1 32 511#32)))))
      (constantI S_ 1 1#1) reducesTo_S131072x1x1_S131072x1_d2 h_S_)
    (Host.gather gather_S131072x512_S131072x1x1_S131072x1_n_1_0_0_1_2_11 d p)
    (broadcastInDim S131072x1 ![] bcast_S_S131072x1 (constant S_ .f32 0x7FC00000#32))

/-- The second result: each row's entry at the column that `nearest` names. -/
def leastOf (d : FVec F S131072x512 .f32) : FVec F S131072 .f32 :=
  shapeCast S131072
    (entriesAt d (shapeCast S131072x1x1
      (wrapped (broadcastInDim S131072x1 ![0] bcast_S131072_S131072x1_0 (nearest d))) shapeCasts_S131072x1_S131072x1x1))
    shapeCasts_S131072x1_S131072

/-- The operations up to the matrix of distances. -/
abbrev opsDist : List (HloOp τ sig (Elt F)) :=
  [ binary main_arg0 main_arg0 main_v0 mulf,
    nullary main_cst (constant S_ .f32 0x00000000#32),
    binary main_v0 main_cst main_v1 (fun x v => Host.reduceAdd x v reducesTo_S131072x32_S131072_d1 h_S_),
    unary main_v1 main_v2 (broadcastInDim S131072x1 ![0] bcast_S131072_S131072x1_0),
    binary main_arg1 main_arg1 main_v3 mulf,
    nullary main_cst_0 (constant S_ .f32 0x00000000#32),
    binary main_v3 main_cst_0 main_v4 (fun x v => Host.reduceAdd x v reducesTo_S512x32_S512_d1 h_S_),
    unary main_v4 main_v5 (broadcastInDim S1x512 ![1] bcast_S512_S1x512_1),
    unary main_v2 main_v6 (broadcastInDim S131072x512 ![0, 1] bcast_S131072x1_S131072x512_0_1),
    unary main_v5 main_v7 (broadcastInDim S131072x512 ![0, 1] bcast_S1x512_S131072x512_0_1),
    binary main_v6 main_v7 main_v8 addf,
    unary main_arg1 main_v9 (transpose S32x512 [1, 0] · transposes_S512x32_S32x512_1_0),
    binary main_arg0 main_v9 main_v10 (fun l r => Host.dotGeneral dot_S131072x32_S32x512_S131072x512_1_0_0_1_n_n none l r),
    nullary main_cst_1 (constant S_ .f32 0x40000000#32),
    unary main_cst_1 main_v11 (broadcastInDim S131072x512 ![] bcast_S_S131072x512),
    binary main_v11 main_v10 main_v12 mulf,
    binary main_v8 main_v12 main_v13 subf,
    nullary main_cst_2 (constant S_ .f32 0x00000000#32),
    unary main_cst_2 main_v14 (broadcastInDim S131072x512 ![] bcast_S_S131072x512),
    binary main_v13 main_v14 main_v15 maximumf,
    unary main_v15 main_v16 Host.sqrt ]

/-- The operations that take each row's least column. -/
abbrev opsArg : List (HloOp τ sig (Elt F)) :=
  [ nullary main_call0_v0 (iotaInDim S131072x512 32 1),
    nullary main_call0_cst (constant S_ .f32 0x7F800000#32),
    nullary main_call0_c (constantI S_ 32 0#32),
    quaternary main_v16 main_call0_v0 main_call0_cst main_call0_c main_call0_v1_0
      (fun x y u v j => (Host.argReduce reducer_argmin_f32_i32 x y u v reducesTo_S131072x512_S131072_d1 h_S_ j).1),
    quaternary main_v16 main_call0_v0 main_call0_cst main_call0_c main_v17
      (fun x y u v j => (Host.argReduce reducer_argmin_f32_i32 x y u v reducesTo_S131072x512_S131072_d1 h_S_ j).2),
    unary main_v17 main_v18 (broadcastInDim S131072x1 ![0] bcast_S131072_S131072x1_0) ]

/-- The operations that read each row at that column. -/
abbrev opsTake : List (HloOp τ sig (Elt F)) :=
  [ nullary main_call1_c (constantI S_ 32 0#32),
    unary main_call1_c main_call1_v0 (broadcastInDim S131072x1 ![] bcast_S_S131072x1),
    binary main_v18 main_call1_v0 main_call1_v1 (cmpi .slt),
    nullary main_call1_c_0 (constantI S_ 32 512#32),
    unary main_call1_c_0 main_call1_v2 (broadcastInDim S131072x1 ![] bcast_S_S131072x1),
    binary main_v18 main_call1_v2 main_call1_v3 addi,
    ternary main_call1_v1 main_call1_v3 main_v18 main_call1_v4 select,
    reshape main_call1_v4 main_call1_v5 (rfl : (.i32 : EltTy) = .i32) shapeCasts_S131072x1_S131072x1x1,
    nullary main_call1_c_1 (constantI S1 32 511#32),
    nullary main_call1_c_2 (constantI S_ 32 0#32),
    unary main_call1_c_2 main_call1_v6 (broadcastInDim S131072x1x1 ![] bcast_S_S131072x1x1),
    binary main_call1_v5 main_call1_v6 main_call1_v7 (cmpi .sge),
    unary main_call1_c_1 main_call1_v8 (broadcastInDim S1x1x1 ![2] bcast_S1_S1x1x1_2),
    unary main_call1_v8 main_call1_v9 (broadcastInDim S131072x1x1 ![0, 1, 2] bcast_S1x1x1_S131072x1x1_0_1_2),
    binary main_call1_v5 main_call1_v9 main_call1_v10 (cmpi .sle),
    binary main_call1_v7 main_call1_v10 main_call1_v11 andi,
    nullary main_call1_c_3 (constantI S_ 1 1#1),
    binary main_call1_v11 main_call1_c_3 main_call1_v12
      (fun x v => Host.reduce IntOp.andi x v reducesTo_S131072x1x1_S131072x1_d2 h_S_),
    binary main_v16 main_call1_v5 main_call1_v13
      (fun x i => Host.gather gather_S131072x512_S131072x1x1_S131072x1_n_1_0_0_1_2_11 x i),
    nullary main_call1_cst (constant S_ .f32 0x7FC00000#32),
    unary main_call1_cst main_call1_v14 (broadcastInDim S131072x1 ![] bcast_S_S131072x1),
    ternary main_call1_v12 main_call1_v13 main_call1_v14 main_v19 select,
    reshape main_v19 main_v20 (rfl : (.f32 : EltTy) = .f32) shapeCasts_S131072x1_S131072 ]

/-- All the operations, in order. -/
abbrev ops : List (HloOp τ sig (Elt F)) := opsDist ++ opsArg ++ opsTake

set_option maxRecDepth 200000 in
/-- The reference program is that straight line. -/
theorem main_eq (c : Dev nD) : main (F := F) c = seq ops := by
  unfold main fn_argmin.body fn_take_along_axis.body; rfl

/-- Nothing is scoped on the reference's signature. -/
theorem scopedRefs_eq : (Finset.univ.filter fun b : Ref sig .tc => b.isScoped) = ∅ := by decide
theorem scopedSems_eq : (Finset.univ.filter fun sm : SemLoc sig => sm.isScoped .tc) = ∅ := by decide

/-- Every operation touches the device's own buffers only. -/
theorem opsDist_sub : (opsDist : List (HloOp τ sig (Elt F))).Forall fun op => op.bufs ⊆ tcRefs τ sig :=
  ⟨binary_bufs_sub .., nullary_bufs_sub .., binary_bufs_sub .., unary_bufs_sub .., binary_bufs_sub ..,
    nullary_bufs_sub .., binary_bufs_sub .., unary_bufs_sub .., unary_bufs_sub .., unary_bufs_sub ..,
    binary_bufs_sub .., unary_bufs_sub .., binary_bufs_sub .., nullary_bufs_sub .., unary_bufs_sub ..,
    binary_bufs_sub .., binary_bufs_sub .., nullary_bufs_sub .., unary_bufs_sub .., binary_bufs_sub ..,
    unary_bufs_sub ..⟩
theorem opsArg_sub : (opsArg : List (HloOp τ sig (Elt F))).Forall fun op => op.bufs ⊆ tcRefs τ sig :=
  ⟨nullary_bufs_sub .., nullary_bufs_sub .., nullary_bufs_sub .., quaternary_bufs_sub ..,
    quaternary_bufs_sub .., unary_bufs_sub ..⟩
theorem opsTake_sub : (opsTake : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., reshape_bufs_sub .., nullary_bufs_sub .., nullary_bufs_sub ..,
    unary_bufs_sub .., binary_bufs_sub .., unary_bufs_sub .., unary_bufs_sub .., binary_bufs_sub ..,
    binary_bufs_sub .., nullary_bufs_sub .., binary_bufs_sub .., binary_bufs_sub .., nullary_bufs_sub ..,
    unary_bufs_sub .., ternary_bufs_sub .., reshape_bufs_sub ..⟩
theorem ops_sub : (ops : List (HloOp τ sig (Elt F))).Forall fun op => op.bufs ⊆ tcRefs τ sig :=
  List.forall_append.mpr ⟨List.forall_append.mpr ⟨opsDist_sub, opsArg_sub⟩, opsTake_sub⟩

/-- After the first operations the distance buffer holds the matrix of distances of the two arguments. -/
theorem dist_eq (V : Valuation τ sig (Elt F)) :
    after opsDist V (main_v16 : DevRef τ sig) = distances (V (main_arg0 : DevRef τ sig)) (V (main_arg1 : DevRef τ sig)) := by
  after_results
  rfl

/-- They write no argument. -/
theorem dist_arg0 (V : Valuation τ sig (Elt F)) :
    after opsDist V (main_arg0 : DevRef τ sig) = V (main_arg0 : DevRef τ sig) := by
  after_results
theorem dist_arg1 (V : Valuation τ sig (Elt F)) :
    after opsDist V (main_arg1 : DevRef τ sig) = V (main_arg1 : DevRef τ sig) := by
  after_results

/-- After the next ones the index buffer holds each row's least column, -/
theorem arg_eq (V : Valuation τ sig (Elt F)) :
    after opsArg V (main_v17 : DevRef τ sig) = nearest (V (main_v16 : DevRef τ sig)) := by
  after_results
  rfl

/-- the column of indices is that buffer spread over one column, -/
theorem arg_col (V : Valuation τ sig (Elt F)) :
    after opsArg V (main_v18 : DevRef τ sig)
      = broadcastInDim S131072x1 ![0] bcast_S131072_S131072x1_0 (nearest (V (main_v16 : DevRef τ sig))) := by
  after_results
  rfl

/-- and the distances and the arguments are as they were. -/
theorem arg_dist (V : Valuation τ sig (Elt F)) :
    after opsArg V (main_v16 : DevRef τ sig) = V (main_v16 : DevRef τ sig) := by
  after_results
theorem arg_arg0 (V : Valuation τ sig (Elt F)) :
    after opsArg V (main_arg0 : DevRef τ sig) = V (main_arg0 : DevRef τ sig) := by
  after_results
theorem arg_arg1 (V : Valuation τ sig (Elt F)) :
    after opsArg V (main_arg1 : DevRef τ sig) = V (main_arg1 : DevRef τ sig) := by
  after_results

/-- The last operations leave in the second result the rows' entries at the columns that the column of indices names, -/
theorem take_eq (V : Valuation τ sig (Elt F)) :
    after opsTake V (main_v20 : DevRef τ sig)
      = shapeCast S131072
          (entriesAt (V (main_v16 : DevRef τ sig))
            (shapeCast S131072x1x1 (wrapped (V (main_v18 : DevRef τ sig))) shapeCasts_S131072x1_S131072x1x1))
          shapeCasts_S131072x1_S131072 := by
  after_results
  rfl

/-- and keep the indices and the arguments. -/
theorem take_arg (V : Valuation τ sig (Elt F)) :
    after opsTake V (main_v17 : DevRef τ sig) = V (main_v17 : DevRef τ sig) := by
  after_results
theorem take_arg0 (V : Valuation τ sig (Elt F)) :
    after opsTake V (main_arg0 : DevRef τ sig) = V (main_arg0 : DevRef τ sig) := by
  after_results
theorem take_arg1 (V : Valuation τ sig (Elt F)) :
    after opsTake V (main_arg1 : DevRef τ sig) = V (main_arg1 : DevRef τ sig) := by
  after_results

/-- The contents after all the operations are those after the three stretches, one after another. -/
theorem after_ops (V : Valuation τ sig (Elt F)) : after ops V = after opsTake (after opsArg (after opsDist V)) := rfl

/-- From any memory with every counter at zero, every fair run of the reference ends, and at its end the index result
    holds the least columns of the matrix of distances of the arguments, the distance result the rows' entries there,
    and the arguments are unchanged. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v17)
            = nearest (distances (m ((c.tc : Thread nD τ).loc main_arg0)) (m ((c.tc : Thread nD τ).loc main_arg1)))
        ∧ r.2.mem ((c.tc : Thread nD τ).loc main_v20)
            = leastOf (distances (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1) := by
  refine (θ_run defs _ _).mono (fun r h c => ⟨?_, ?_, ?_, ?_⟩)
    (run_seq scopedRefs_eq scopedSems_eq defs main (fun _ => ops) main_eq (fun _ => ops_sub) m ρ)
  · rw [h c main_v17, after_ops, take_arg, arg_eq, dist_eq]
  · rw [h c main_v20, after_ops, take_eq, arg_dist, arg_col, dist_eq]; rfl
  · rw [h c main_arg0, after_ops, take_arg0, arg_arg0, dist_arg0]
  · rw [h c main_arg1, after_ops, take_arg1, arg_arg1, dist_arg1]

end Cert.Proof.RefRun

end
-- ==== Proof.Nearest.lean ====
/-
  The mathematics of the nearest code, over the extended reals and with no array in sight.

  For a point and a code, `score` is the squared length of the code less twice their product, and `distance` is the
  root of the point's squared length plus that score, cut off at zero. The distance grows with the score, so the least
  score gives the least distance; where one code alone is at the least distance, the codes whose score is at most the
  least score are that code alone, and the sum of their numbers is its number.
-/
module

public import Idealize.ShloMosaic.PureOps.Ideal
public import Idealize.ShloMosaic.PureOps.Ideal.Laws
public import Mathlib.Order.CompleteLattice.Finset
public import Mathlib.Data.EReal.Operations

@[expose] public section

noncomputable section

namespace Cert.Proof.Nearest

open Idealize.ShloMosaic

/-- The sum of a vector's squared entries. -/
def sumSq (v : Fin 32 → EReal) : EReal := ∑ k, v k * v k

/-- The factor two, as the programs' constant denotes it. -/
def two : EReal := Ideal.ofBits .f32 0x40000000#32

/-- A code's squared length less twice its product with the point. -/
def score (x c : Fin 32 → EReal) : EReal := sumSq c - two * ∑ k, c k * x k

/-- A value cut off at zero from below, and its root. -/
def root (t : EReal) : EReal := Ideal.sqrt (max t 0)

/-- The distance of a point from a code. -/
def distance (x c : Fin 32 → EReal) : EReal := root (sumSq x + score x c)

/-- The distance written as squares of both less twice the product, the product taken with the point first. -/
theorem distance_eq (x c : Fin 32 → EReal) :
    Ideal.sqrt (max (sumSq x + sumSq c - two * ∑ k, x k * c k) 0) = distance x c := by
  unfold distance root score
  simp only [sub_eq_add_neg, add_assoc, mul_comm (x _)]

/-- The root grows with its argument from zero on. -/
theorem sqrt_le {a b : EReal} (ha : 0 ≤ a) (h : a ≤ b) : Ideal.sqrt a ≤ Ideal.sqrt b := by
  induction b with
  | bot => exact absurd (ha.trans h) (by simp)
  | top => simp
  | coe b =>
    induction a with
    | bot => exact absurd ha (by simp)
    | top => exact absurd h (by simp)
    | coe a =>
      have ha' : (0 : ℝ) ≤ a := by exact_mod_cast ha
      have hab : a ≤ b := by exact_mod_cast h
      rw [Ideal.sqrt_coe, Ideal.sqrt_coe, if_neg (not_lt.2 ha'), if_neg (not_lt.2 (ha'.trans hab))]
      exact_mod_cast Real.sqrt_le_sqrt hab

/-- The distance grows with the score. -/
theorem root_mono (a : EReal) : Monotone fun t => root (a + t) := fun _ _ h =>
  sqrt_le (le_max_right _ _) (max_le_max (add_le_add le_rfl h) le_rfl)

/-- The pattern of plus infinity denotes the greatest extended real. -/
theorem ofBits_inf : Ideal.ofBits .f32 0x7F800000#32 = (⊤ : EReal) := by
  simp [Ideal.ofBits, Ideal.ieee]

/-- The least of `512` values: their fold by the minimum from the greatest extended real. -/
def least (s : Fin 512 → EReal) : EReal := Finset.univ.fold min ⊤ s

/-- It is at most every value, -/
theorem least_le (s : Fin 512 → EReal) (j : Fin 512) : least s ≤ s j :=
  Finset.inf_le (f := s) (Finset.mem_univ j)

/-- and it is one of them. -/
theorem least_mem (s : Fin 512 → EReal) : ∃ j, least s = s j := by
  obtain ⟨j, -, h⟩ := Finset.exists_mem_eq_inf (Finset.univ : Finset (Fin 512)) ⟨0, Finset.mem_univ _⟩ s
  exact ⟨j, h⟩

/-- A value among them that is at most every one is their least. -/
theorem eq_least (s : Fin 512 → EReal) (j : Fin 512) (h : ∀ k, s j ≤ s k) : s j = least s := by
  obtain ⟨i, hi⟩ := least_mem s
  exact le_antisymm (hi ▸ h i) (least_le s j)

/-- A growing function of the least value is the least of the function's values. -/
theorem mono_least (s : Fin 512 → EReal) {f : EReal → EReal} (hf : Monotone f) : f (least s) = least fun j => f (s j) := by
  obtain ⟨i, hi⟩ := least_mem s
  rw [hi]
  exact eq_least (fun j => f (s j)) i fun k => hf (hi ▸ least_le s k)

/-- Counting by a sum of ones: where the count of the indices with a property is one, one index has it and no other. -/
theorem unique_of_count (p : Fin 512 → Prop) [DecidablePred p] (h : (∑ j, if p j then (1 : EReal) else 0) = 1) :
    ∃ j, p j ∧ ∀ k, p k → k = j := by
  have hc : (∑ j, if p j then (1 : EReal) else 0) = (((Finset.univ.filter p).card : ℕ) : EReal) := by
    rw [← Finset.sum_filter, Finset.sum_const, nsmul_one]
  rw [hc] at h
  have h1 : (Finset.univ.filter p).card = 1 := by exact_mod_cast h
  obtain ⟨j, hj⟩ := Finset.card_eq_one.1 h1
  have hm : ∀ k, p k ↔ k = j := fun k => by
    have := congrArg (k ∈ ·) hj
    simpa using this
  exact ⟨j, (hm j).2 rfl, fun k hk => (hm k).1 hk⟩

/-- A natural number below `2 ^ 31`, read back from the extended reals as a word, is the word of that number. -/
theorem fptosi_natCast (n : ℕ) (hn : n < 2 ^ 31) : Ideal.fptosi 32 ((n : ℕ) : EReal) = BitVec.ofNat 32 n := by
  have e : ((n : ℕ) : EReal) = (((n : ℕ) : ℝ) : EReal) := by simp
  rw [e, Ideal.fptosi, Ideal.toIntClamped_coe, if_pos (Nat.cast_nonneg n), Int.floor_natCast]
  rw [min_eq_right (by omega), max_eq_right (by omega), BitVec.ofInt_natCast]

/-- A word of a natural number below `2 ^ 31`, converted to the extended reals, is that number. -/
theorem sitofp_ofNat (n : ℕ) (hn : n < 2 ^ 31) :
    (FloatOps.sitofp (F := Ideal) .f32 (BitVec.ofNat 32 n) : EReal) = ((n : ℕ) : EReal) := by
  have e : (BitVec.ofNat 32 n).toInt = (n : ℤ) := by
    have hm : n % 2 ^ 32 = n := Nat.mod_eq_of_lt (by omega)
    rw [BitVec.toInt_eq_toNat_of_lt (by rw [BitVec.toNat_ofNat, hm]; omega), BitVec.toNat_ofNat, hm]
  show (((BitVec.ofNat 32 n).toInt : ℝ) : EReal) = _
  rw [e]; simp

/-- The sum of the numbers of the indices with a property, where one index alone has it, is that index's number. -/
theorem sum_unique (p : Fin 512 → Prop) [DecidablePred p] (j : Fin 512) (hj : p j) (hu : ∀ k, p k → k = j) :
    (∑ k : Fin 512, (((k : ℕ) : EReal) * if p k then 1 else 0)) = ((j : ℕ) : EReal) := by
  rw [Finset.sum_eq_single j (fun k _ hk => by rw [if_neg fun h => hk (hu k h), mul_zero])
    (fun h => absurd (Finset.mem_univ j) h), if_pos hj, mul_one]

/-- Where one code alone is at the least distance from the point, the codes whose score is at most the least score are
    that code alone. -/
theorem score_le_iff (x : Fin 32 → EReal) (c : Fin 512 → Fin 32 → EReal) (j : Fin 512)
    (hu : ∀ k, distance x (c k) = least (fun i => distance x (c i)) → k = j) (k : Fin 512) :
    score x (c k) ≤ least (fun i => score x (c i)) ↔ k = j := by
  have key : ∀ i, score x (c i) ≤ least (fun i => score x (c i)) → i = j := fun i hi => hu i (by
    have e : score x (c i) = least fun i => score x (c i) := le_antisymm hi (least_le (fun i => score x (c i)) i)
    show root (sumSq x + score x (c i)) = _
    rw [e]
    exact mono_least (fun i => score x (c i)) (root_mono (sumSq x)))
  refine ⟨key k, fun h => ?_⟩
  obtain ⟨i, hi⟩ := least_mem fun i => score x (c i)
  have : i = j := key i hi.ge
  rw [h, ← this]
  exact hi.ge

/-- So the sum of the numbers of those codes, as a word, is that code's number. -/
theorem index_word (x : Fin 32 → EReal) (c : Fin 512 → Fin 32 → EReal) (j : Fin 512)
    (hu : ∀ k, distance x (c k) = least (fun i => distance x (c i)) → k = j) :
    Ideal.fptosi 32 (∑ k : Fin 512, (FloatOps.sitofp (F := Ideal) .f32 (BitVec.ofNat 32 k) : EReal)
        * if score x (c k) ≤ least (fun i => score x (c i)) then 1 else 0) = BitVec.ofNat 32 j := by
  have e : (∑ k : Fin 512, (FloatOps.sitofp (F := Ideal) .f32 (BitVec.ofNat 32 k) : EReal)
        * if score x (c k) ≤ least (fun i => score x (c i)) then 1 else 0) = ((j : ℕ) : EReal) := by
    rw [← sum_unique (fun k => score x (c k) ≤ least (fun i => score x (c i))) j ((score_le_iff x c j hu j).2 rfl)
      fun k => (score_le_iff x c j hu k).1]
    exact Finset.sum_congr rfl fun k _ => by rw [sitofp_ofNat k (by omega)]
  rw [e, fptosi_natCast j (by omega)]

/-- The root of the point's squared length plus the least score is the least distance. -/
theorem root_least (x : Fin 32 → EReal) (c : Fin 512 → Fin 32 → EReal) :
    root (least (fun i => score x (c i)) + sumSq x) = least fun i => distance x (c i) := by
  rw [add_comm]
  exact mono_least (fun i => score x (c i)) (root_mono (sumSq x))

end Cert.Proof.Nearest

end
-- ==== Proof.Block.lean ====
/-
  What one block of the kernel computes, at the extended reals: from the block's points (8192 rows of 32 entries) and
  the whole codebook (512 rows of 32 entries), at lane `n` the index row holds the sum of the numbers of the codes at
  the least score from point `n`, as a word, and the distance row holds the least distance of point `n`.
-/
module

public import proofs.«01_k».proof.Proof.Nearest
public import proofs.«01_k».proof.Proof.Gen.KernelIdeal.Skeleton
public import Idealize.ShloMosaic.Lib.Pointwise

@[expose] public section

set_option maxRecDepth 16384

noncomputable section

namespace Cert.Proof.Block

open Cert.KernelIdeal Cert.KernelIdeal.Gen Cert.Proof.Nearest
open Idealize.ShloMosaic

/-- Row `n` of a matrix of 32 columns. -/
def row {N : ℕ} (a : (⟨2, ![N, 32]⟩ : Shape).Idx → EReal) (n : Fin N) : Fin 32 → EReal := fun k => a (ix2 n k)

variable (x : FVec Ideal S8192x32 .f32) (c : FVec Ideal S512x32 .f32)

/-- Entry `(j, n)` of the block's scores is the score of code `j` for point `n`. -/
theorem scores_apply (j : Fin 512) (n : Fin 8192) :
    k0_pay1 (F := Ideal) x c (ix2 j n) = score (row x n) (row c j) := by
  pointwise [k0_pay1]
  rfl

/-- Lane `n` of the block's least scores is the least of point `n`'s scores. -/
theorem least_apply (n : Fin 8192) :
    k0_pay2 (F := Ideal) x c (ix2 0 n) = least fun j => score (row x n) (row c j) := by
  pointwise [k0_pay2]
  rw [ofBits_inf]
  simp only [scores_apply]
  rfl

/-- Lane `n` of the block's indices is the sum of the numbers of the codes whose score is at most the least one. -/
theorem index_apply (n : Fin 8192) :
    k0_pay3 (F := Ideal) x c (ix3 0 0 n)
      = Ideal.fptosi 32 (∑ k : Fin 512, (FloatOps.sitofp (F := Ideal) .f32 (BitVec.ofNat 32 k) : EReal)
          * if score (row x n) (row c k) ≤ least (fun j => score (row x n) (row c j)) then 1 else 0) := by
  pointwise [k0_pay3]
  simp only [scores_apply, least_apply]
  rfl

/-- Lane `n` of the points' squared lengths, summed along the rows of the block. -/
theorem sumSq_apply (n : Fin 8192) :
    multiReduction .add [1] S8192 (mulf x x) 0x00000000#32 reduces_S8192x32_S8192 (.inl rfl) rfl (ix1 n)
      = sumSq (row x n) := by
  pointwise
  rfl

/-- A vector stood up as a column reads at row `n` what it reads at lane `n`, -/
theorem column_apply (v : FVec Ideal S8192 .f32) (n : Fin 8192) :
    shapeCast S8192x1 v shapeCasts_S8192_S8192x1 (ix2 n 0) = v (ix1 n) := by
  pointwise

/-- a column laid down as a row reads at lane `n` what it reads at row `n`, -/
theorem flat_apply (v : FVec Ideal S8192x1 .f32) (n : Fin 8192) :
    transpose S1x8192 [1, 0] v transposes_S8192x1_p1_0_S1x8192 (ix2 0 n) = v (ix2 n 0) := by
  pointwise

/-- and a row under one more axis reads as it did. -/
theorem stack_apply (v : FVec Ideal S1x8192 .f32) (n : Fin 8192) :
    shapeCast S1x1x8192 v shapeCasts_S1x8192_S1x1x8192 (ix3 0 0 n) = v (ix2 0 n) := by
  pointwise

/-- The block's last arithmetic, lane by lane: the root of a sum of two rows, cut off below at zero. -/
theorem root_apply (v w : FVec Ideal S1x8192 .f32) (n : Fin 8192) :
    sqrt (maximumf (addf v w) (broadcast S1x8192 (Scalar.ofBits .f32 0x00000000#32))) (ix2 0 n)
      = root (v (ix2 0 n) + w (ix2 0 n)) := by
  pointwise [root]

/-- Lane `n` of the block's distances is the least distance of point `n` from a code. -/
theorem dist_apply (n : Fin 8192) :
    k0_pay4 (F := Ideal) x c (ix3 0 0 n) = least fun j => distance (row x n) (row c j) := by
  unfold k0_pay4
  rw [stack_apply, root_apply, flat_apply, column_apply, sumSq_apply, least_apply]
  exact root_least _ _

end Cert.Proof.Block

end
-- ==== Proof.Arrays.lean ====
/-
  What the kernel's two result arrays (16 slabs of one row of 8192 lanes) hold after the run, at the extended reals:
  slab `t`, lane `l` belongs to point `t * 8192 + l`.
-/
module

public import proofs.«01_k».proof.Proof.Block
public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.ValueKit

@[expose] public section

set_option maxRecDepth 16384

noncomputable section

namespace Cert.Proof.Arrays

open Cert.KernelIdeal Cert.KernelIdeal.Gen Cert.Proof.Nearest Cert.Proof.Block
open Idealize.ShloMosaic

/-- The points and the codebook, as matrices of extended reals. -/
abbrev Points := (⟨2, ![131072, 32]⟩ : Shape).Idx → EReal
abbrev Codes := (⟨2, ![512, 32]⟩ : Shape).Idx → EReal

/-- The word the kernel writes for a point: the sum of the numbers of the codes at the least score. -/
def indexAt (C : Codes) (p : Fin 32 → EReal) : BitVec 32 :=
  Ideal.fptosi 32 (∑ k : Fin 512, (FloatOps.sitofp (F := Ideal) .f32 (BitVec.ofNat 32 k) : EReal)
    * if score p (row C k) ≤ least (fun j => score p (row C j)) then 1 else 0)

/-- The number the kernel writes for a point: its least distance from a code. -/
def distAt (C : Codes) (p : Fin 32 → EReal) : EReal := least fun j => distance p (row C j)

/-- The point of slab `i 0`, lane `i 2`. -/
def pointOf (i : S16x1x8192.Idx) : Fin 131072 :=
  ⟨(i 0).val * 8192 + (i 2).val, by
    have h0 : (i 0).val < 16 := (i 0).isLt
    have h2 : (i 2).val < 8192 := (i 2).isLt
    omega⟩

/-- The block of each array at grid point `t`: slab `t` of the points and of the results, the whole codebook. -/
theorem idx : ∀ t : Fin grid0.N, win0_0.index t = ![t.val, 0] ∧ win0_1.index t = ![0, 0]
    ∧ win0_2.index t = ![t.val, 0, 0] ∧ win0_3.index t = ![t.val, 0, 0] := by decide +kernel

variable (m : (ℓ : Loc nD τ sig) → Buf (Elt Ideal) ℓ) (c : Dev nD)

/-- The launch contents of the two arguments. -/
abbrev X : Points := m ((c.tc : Thread nD τ).loc main_arg0)
abbrev C : Codes := m ((c.tc : Thread nD τ).loc main_arg1)

/-- Row `l` of grid point `t`'s block of points is point `t * 8192 + l`. -/
theorem row_points (t : Fin cfg0.N) (l : Fin 8192) (n : Fin 131072) (hn : n.val = t.val * 8192 + l.val) :
    row (iblk m c 0 t) l = row (X m c) n := by
  funext k
  show iblk m c 0 t (ix2 l k) = m ((c.tc : Thread nD τ).loc main_arg0) (ix2 n k)
  blk_ext [iblk, V, (idx t).1]

/-- Row `j` of the block of codes is code `j`. -/
theorem row_codes (t : Fin cfg0.N) (j : Fin 512) : row (iblk m c 1 t) j = row (C m c) j := by
  funext k
  show iblk m c 1 t (ix2 j k) = m ((c.tc : Thread nD τ).loc main_arg1) (ix2 j k)
  blk_ext [iblk, V, (idx t).2.1]

/-- An index of one slab is its lane. -/
theorem lane_eq (y : S1x1x8192.Idx) : y = ix3 0 0 (y 2) := by
  funext a
  match a with
  | ⟨0, _⟩ => exact Subsingleton.elim (α := Fin 1) _ _
  | ⟨1, _⟩ => exact Subsingleton.elim (α := Fin 1) _ _
  | ⟨2, _⟩ => rfl

/-- The array of indices after the run. -/
theorem index_array : (dats m 0 c).arrAt 2 cfg0.N = fun i => indexAt (C m c) (row (X m c) (pointOf i)) := by
  refine (dats m 0 c).arrAt_eq_of_covers 2 _ (by decide +kernel) fun t hf y => ?_
  have hn : (pointOf (((cfg0.win 2).blk t).view.emb y)).val = t.val * 8192 + (y 2).val := by
    unfold pointOf
    blk_simp [(idx t).2.2.1]
  have e := index_apply (iblk m c 0 t) (iblk m c 1 t) (y 2)
  rw [row_points m c t (y 2) _ hn] at e
  simp only [row_codes] at e
  blk_simp
  rw [after0_2]
  frame_out
  exact (congrArg _ (lane_eq y)).trans e

/-- The array of distances after the run. -/
theorem dist_array : (dats m 0 c).arrAt 3 cfg0.N = fun i => distAt (C m c) (row (X m c) (pointOf i)) := by
  refine (dats m 0 c).arrAt_eq_of_covers 3 _ (by decide +kernel) fun t hf y => ?_
  have hn : (pointOf (((cfg0.win 3).blk t).view.emb y)).val = t.val * 8192 + (y 2).val := by
    unfold pointOf
    blk_simp [(idx t).2.2.2]
  have e := dist_apply (iblk m c 0 t) (iblk m c 1 t) (y 2)
  rw [row_points m c t (y 2) _ hn] at e
  simp only [row_codes] at e
  blk_simp
  rw [after0_3]
  frame_out
  exact (congrArg _ (lane_eq y)).trans e

/-- A result array read flat: entry `n` is slab `n / 8192`, lane `n % 8192`, which is point `n`. -/
theorem flat_of {α : Type} (f : Fin 131072 → α) (n : Fin 131072) :
    shapeCast S131072 (fun i => f (pointOf i)) shapeCasts_S16x1x8192_S131072 (ix1 n) = f n := by
  pointwise
  refine congrArg f (Fin.ext ?_)
  unfold pointOf
  simp
  omega

end Cert.Proof.Arrays

end
-- ==== Proof.KernelRun.lean ====
/-
  The kernel's run at the extended reals: what its two results hold at every point, and that the arguments are left as
  they were.
-/
module

public import proofs.«01_k».proof.Proof.Arrays
public import Idealize.ShloMosaic.Lib.StableHlo.Run

@[expose] public section

set_option maxRecDepth 16384

noncomputable section

namespace Cert.Proof.KernelRun

open Cert.KernelIdeal Cert.KernelIdeal.Gen Cert.Proof.Nearest Cert.Proof.Block Cert.Proof.Arrays
open Idealize.ShloMosaic Idealize.ShloMosaic.TcCoe Idealize.SL.Sem

variable (m : (ℓ : Loc nD τ sig) → Buf (Elt Ideal) ℓ) (c : Dev nD)

/-- The first result, after the reshapes that follow the kernel: the array of indices read flat. -/
theorem tail_index : Pipeline.afterTail₀ cfgs (dats m) 0 (V0 m) [hostOps1] c main_v1
    = shapeCast S131072 ((dats m 0 c).arrAt 2 cfg0.N) shapeCasts_S16x1x8192_S131072 := by
  unfold Pipeline.afterTail₀
  show StableHlo.after hostOps1 _ _ = _
  after_results
  exact congrArg (fun v => shapeCast S131072 v shapeCasts_S16x1x8192_S131072)
    (Pipeline.withArrays_arr (cfgs 0).spec launch0.win.arr_inj c (V0 m c) _ 2)

/-- The second: the array of distances read flat. -/
theorem tail_dist : Pipeline.afterTail₀ cfgs (dats m) 0 (V0 m) [hostOps1] c main_v2
    = shapeCast S131072 ((dats m 0 c).arrAt 3 cfg0.N) shapeCasts_S16x1x8192_S131072 := by
  unfold Pipeline.afterTail₀
  show StableHlo.after hostOps1 _ _ = _
  after_results
  exact congrArg (fun v => shapeCast S131072 v shapeCasts_S16x1x8192_S131072)
    (Pipeline.withArrays_arr (cfgs 0).spec launch0.win.arr_inj c (V0 m c) _ 3)

/-- Every run ends with the index word and the least distance of each point in the results, the arguments unchanged. -/
theorem run_main (ρ : Dev nD → PrngReg) :
    θ_run defs (onTc (τ := τ) (main (F := Ideal))) ⟨m, fun _ => 0, ρ⟩ fun r => ∀ c : Dev nD,
      (∀ n : Fin 131072, r.2.mem ((c.tc : Thread nD τ).loc main_v1) (ix1 n) = indexAt (C m c) (row (X m c) n))
      ∧ (∀ n : Fin 131072, r.2.mem ((c.tc : Thread nD τ).loc main_v2) (ix1 n) = distAt (C m c) (row (X m c) n))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨fun n => ?_, fun n => ?_, ?_, ?_⟩) (Gen.run_main m ρ)
  · have e := (h.rest_eq c main_v1 (by decide)).trans (tail_index m c)
    rw [index_array] at e
    exact (congrFun e (ix1 n)).trans (flat_of (fun n => indexAt (C m c) (row (X m c) n)) n)
  · have e := (h.rest_eq c main_v2 (by decide)).trans (tail_dist m c)
    rw [dist_array] at e
    exact (congrFun e (ix1 n)).trans (flat_of (fun n => distAt (C m c) (row (X m c) n)) n)
  · exact (h.in_eq c 0 rfl).trans ((A_eq m c 0).trans (V_main_arg0 m c))
  · exact (h.in_eq c 1 rfl).trans ((A_eq m c 1).trans (V_main_arg1 m c))

end Cert.Proof.KernelRun

end
-- ==== Proof.ArgMin.lean ====
/-
  The reference's index: its fold over each row's entries, a pair of entry and column at a time, keeps the pair of the
  lesser entry, so that what it names is a column of the row's least entry.
-/
module

public import proofs.«01_k».proof.Proof.RefRun
public import proofs.«01_k».proof.Proof.Nearest
public import Idealize.ShloMosaic.Lib.Pointwise
public import Idealize.ShloMosaic.PureOps.Ideal.Laws

@[expose] public section

set_option maxRecDepth 16384

noncomputable section

namespace Cert.Proof.ArgMin

open Cert.ReferenceIdeal Cert.ReferenceIdeal.Gen Cert.Proof.RefRun
open Idealize.ShloMosaic

/-- One step of the fold keeps one of its two pairs, and one whose entry is the lesser. -/
theorem step (a b : EReal × BitVec 32) :
    (reducer_argmin_f32_i32 (F := Ideal) a b = a ∨ reducer_argmin_f32_i32 (F := Ideal) a b = b)
      ∧ (reducer_argmin_f32_i32 (F := Ideal) a b).1 ≤ a.1 ∧ (reducer_argmin_f32_i32 (F := Ideal) a b).1 ≤ b.1 := by
  obtain ⟨x, i⟩ := a
  obtain ⟨y, j⟩ := b
  have hv : reducer_argmin_f32_i32 (F := Ideal) (x, i) (y, j)
      = (if x < y then x else y, if x < y ∨ (x = y ∧ IntOp.cmpi .slt i j = 1#1) then i else j) := by
    unfold reducer_argmin_f32_i32
    simp only [Ideal.cmpf_def, Ideal.cmp, Scalar.select, IntOp.ori, IntOp.andi]
    rcases BitVec.eq_zero_or_eq_one (IntOp.cmpi .slt i j) with h | h <;> rw [h] <;>
    by_cases hlt : x < y <;> by_cases heq : x = y <;> simp [hlt, heq]
  rw [hv]
  by_cases hlt : x < y
  · simp [hlt, hlt.le]
  · by_cases heq : x = y
    · subst heq
      by_cases h : IntOp.cmpi .slt i j = 1#1 <;> simp [h]
    · simp [hlt, heq, not_lt.mp hlt]

/-- The whole fold keeps the first pair or one of the list, and one whose entry is the least of them all. -/
theorem fold (L : List (EReal × BitVec 32)) : ∀ a : EReal × BitVec 32,
    (L.foldl (reducer_argmin_f32_i32 (F := Ideal)) a = a ∨ L.foldl (reducer_argmin_f32_i32 (F := Ideal)) a ∈ L)
      ∧ (L.foldl (reducer_argmin_f32_i32 (F := Ideal)) a).1 ≤ a.1
      ∧ ∀ p ∈ L, (L.foldl (reducer_argmin_f32_i32 (F := Ideal)) a).1 ≤ p.1 := by
  induction L with
  | nil => exact fun a => ⟨.inl rfl, le_refl _, fun p hp => absurd hp List.not_mem_nil⟩
  | cons b L ih =>
    intro a
    obtain ⟨hm, hle, hL⟩ := ih (reducer_argmin_f32_i32 (F := Ideal) a b)
    obtain ⟨hs, ha, hb⟩ := step a b
    rw [List.foldl_cons]
    refine ⟨?_, hle.trans ha, fun p hp => ?_⟩
    · rcases hm with hm | hm
      · rw [hm]
        rcases hs with hs | hs
        · exact .inl hs
        · rw [hs]
          exact .inr List.mem_cons_self
      · exact .inr (List.mem_cons_of_mem _ hm)
    · rcases List.mem_cons.mp hp with rfl | hp
      · exact hle.trans hb
      · exact hL p hp

/-- An index of the matrix lies over row `n` when its first coordinate is `n`. -/
theorem over_row (i : S131072x512.Idx) (n : Fin 131072) :
    reducesTo_S131072x512_S131072_d1.drop i = ix1 n ↔ ∃ k : Fin 512, i = ix2 n k := by
  have hv : (reducesTo_S131072x512_S131072_d1.drop i 0 : Nat) = i 0 :=
    Shape.ReducesTo.drop_apply_val reducesTo_S131072x512_S131072_d1 i 0
  constructor
  · intro e
    rw [e] at hv
    refine ⟨i 1, funext fun a => ?_⟩
    match a with
    | ⟨0, _⟩ => exact Fin.ext hv.symm
    | ⟨1, _⟩ => rfl
  · rintro ⟨k, rfl⟩
    funext b
    have hb : b = 0 := Subsingleton.elim (α := Fin 1) _ _
    subst hb
    exact Fin.ext hv

/-- The pairs of a fold at a result index are those of the source's indices over it. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ (x i, y i) = p := by
  unfold Host.argReduceFiber
  rw [List.mem_map]
  constructor
  · rintro ⟨q, hq, e⟩
    exact ⟨_, of_decide_eq_true (List.mem_filter.mp hq).2, e⟩
  · rintro ⟨i, hi, e⟩
    refine ⟨s.rowMajor i, List.mem_filter.mpr ⟨List.mem_finRange _, decide_eq_true ?_⟩, ?_⟩ <;>
    rw [Equiv.symm_apply_apply] <;> assumption

/-- A matrix of column numbers reads at `(n, k)` the word of `k`. -/
theorem columns_apply (n : Fin 131072) (k : Fin 512) :
    iotaInDim S131072x512 32 1 (ix2 n k) = BitVec.ofNat 32 k := by
  pointwise

/-- The pairs of row `n`'s fold are its entries with their columns. -/
theorem mem_pairs (d : FVec Ideal S131072x512 .f32) (n : Fin 131072) (p : EReal × BitVec 32) :
    p ∈ Host.argReduceFiber d (iotaInDim S131072x512 32 1) reducesTo_S131072x512_S131072_d1 (ix1 n)
      ↔ ∃ k : Fin 512, (d (ix2 n k), BitVec.ofNat 32 k) = p := by
  rw [mem_fiber]
  constructor
  · rintro ⟨i, hi, e⟩
    obtain ⟨k, rfl⟩ := (over_row i n).mp hi
    rw [columns_apply] at e
    exact ⟨k, e⟩
  · rintro ⟨k, e⟩
    refine ⟨ix2 n k, (over_row _ n).mpr ⟨k, rfl⟩, ?_⟩
    rw [columns_apply]
    exact e

/-- Folding pairs of entries and columns from the pair of `⊤` and column 0 names a column of the least entry. -/
theorem fold_least (L : List (EReal × BitVec 32)) (d : Fin 512 → EReal)
    (hL : ∀ p, p ∈ L ↔ ∃ k : Fin 512, (d k, BitVec.ofNat 32 k) = p) :
    ∃ j : Fin 512, (L.foldl (reducer_argmin_f32_i32 (F := Ideal)) (⊤, 0#32)).2 = BitVec.ofNat 32 j ∧ ∀ k, d j ≤ d k := by
  obtain ⟨hm, -, hle⟩ := fold L (⊤, 0#32)
  have hle' : ∀ k, (L.foldl (reducer_argmin_f32_i32 (F := Ideal)) (⊤, 0#32)).1 ≤ d k :=
    fun k => hle _ ((hL _).mpr ⟨k, rfl⟩)
  rcases hm with hm | hm
  · rw [hm] at hle' ⊢
    exact ⟨0, rfl, fun k => le_trans le_top (hle' k)⟩
  · obtain ⟨j, hj⟩ := (hL _).mp hm
    rw [← hj] at hle' ⊢
    exact ⟨j, rfl, hle'⟩

/-- A fold of pairs over the extended reals, at a result index, is the fold of the list of its pairs. -/
theorem argReduce_fold {s t u : Shape} {axes : List (Fin s.rank)}
    (f : EReal × BitVec 32 → EReal × BitVec 32 → EReal × BitVec 32) (x : FVec Ideal s .f32) (y : s.Idx → BitVec 32)
    (ix : FVec Ideal u .f32) (iy : u.Idx → BitVec 32) (h : s.ReducesTo axes t) (hu : 0 < u.numel) (j : t.Idx)
    (z : EReal × BitVec 32) (hz : (ix (Shape.Idx.first hu), iy (Shape.Idx.first hu)) = z) :
    Host.argReduce (F := Ideal) (φ := .f32) f x y ix iy h hu j = (Host.argReduceFiber x y h j).foldl f z := by
  rw [Ideal.argReduce_eq_reduce2, Host.reduce2_eq_foldl_fiber, hz]

/-- The pair that the reference's fold starts from. -/
theorem start_pair (i : S_.Idx) :
    ((constant (F := Ideal) S_ .f32 0x7F800000#32 : FVec Ideal S_ .f32) i, (constantI S_ 32 0#32 : IVec S_ 32) i)
      = ((⊤ : EReal), 0#32) :=
  Prod.ext Nearest.ofBits_inf rfl

/-- The reference's indices are the second components of the fold of pairs. -/
theorem nearest_def (d : FVec Ideal S131072x512 .f32) : nearest d = fun j =>
    (Host.argReduce (F := Ideal) (φ := .f32) (reducer_argmin_f32_i32 (F := Ideal)) d (iotaInDim S131072x512 32 1)
      (constant S_ .f32 0x7F800000#32) (constantI S_ 32 0#32) reducesTo_S131072x512_S131072_d1 h_S_ j).2 := rfl

/-- The reference's index of row `n` is the word of a column at which the row is least. -/
theorem nearest_apply (d : FVec Ideal S131072x512 .f32) (n : Fin 131072) :
    ∃ j : Fin 512, nearest d (ix1 n) = BitVec.ofNat 32 j ∧ ∀ k : Fin 512, d (ix2 n j) ≤ d (ix2 n k) := by
  obtain ⟨j, hj, hle⟩ := fold_least _ (fun k => d (ix2 n k)) (mem_pairs d n)
  refine ⟨j, (congrFun (nearest_def d) (ix1 n)).trans ((congrArg Prod.snd ?_).trans hj), hle⟩
  exact argReduce_fold (reducer_argmin_f32_i32 (F := Ideal)) d (iotaInDim S131072x512 32 1)
    (constant S_ .f32 0x7F800000#32) (constantI S_ 32 0#32) reducesTo_S131072x512_S131072_d1 h_S_ (ix1 n) _ (start_pair _)

end Cert.Proof.ArgMin

end
-- ==== Proof.RefValue.lean ====
/-
  What the reference computes, at the extended reals: each point's distances from the codes, a code at which they are
  least, and that least distance.
-/
module

public import proofs.«01_k».proof.Proof.ArgMin
public import proofs.«01_k».proof.Proof.Block

@[expose] public section

set_option maxRecDepth 16384

noncomputable section

namespace Cert.Proof.RefValue

open Cert.ReferenceIdeal Cert.ReferenceIdeal.Gen Cert.Proof.RefRun Cert.Proof.Nearest
open Cert.Proof.Block (row)
open Idealize.ShloMosaic

/-- Entry `(n, j)` of the reference's matrix is the distance of point `n` from code `j`. -/
theorem distances_apply (x : FVec Ideal S131072x32 .f32) (c : FVec Ideal S512x32 .f32) (n : Fin 131072) (j : Fin 512) :
    distances x c (ix2 n j) = distance (row x n) (row c j) := by
  pointwise [distances]
  exact distance_eq _ _

/-- A column number below 512, as a 32-bit word, is that number again when read signed. -/
theorem toInt_column (j : Fin 512) : (BitVec.ofNat 32 j.val).toInt = j.val := by
  have hj : j.val < 2 ^ 32 := lt_of_lt_of_le j.isLt (by norm_num)
  rw [BitVec.toInt_eq_toNat_of_lt (by rw [BitVec.toNat_ofNat, Nat.mod_eq_of_lt hj]; have := j.isLt; omega),
    BitVec.toNat_ofNat, Nat.mod_eq_of_lt hj]

/-- The reference's gather: row `n` of the result reads row `n` of the matrix. -/
abbrev along : GatherDims S131072x512 S131072x1x1 S131072x1 := gather_S131072x512_S131072x1x1_S131072x1_n_1_0_0_1_2_11

/-- Row `n` of the result reads the column numbers at row `n`. -/
theorem along_row (n : Fin 131072) (hb : (0 : Fin 3) ∈ along.siKept) : (along.siCoord (ix2 n 0) 0 hb).val = n.val := rfl

/-- The one column number that entry `(n, 0)` of the result reads. -/
theorem along_start (n : Fin 131072) (q : Fin along.startIndexMap.length) : along.siIdx (ix2 n 0) q = ix3 n 0 0 := by
  funext b
  match b with
  | ⟨0, _⟩ => exact Fin.ext rfl
  | ⟨1, _⟩ => exact Subsingleton.elim (α := Fin 1) _ _
  | ⟨2, _⟩ => exact Subsingleton.elim (α := Fin 1) _ _

/-- Where the column numbers hold `j` at row `n`, the gathered column holds the matrix's entry `(n, j)`. -/
theorem gather_apply (d : FVec Ideal S131072x512 .f32) (p : IVec S131072x1x1 32) (n : Fin 131072) (j : Fin 512)
    (hp : p (ix3 n 0 0) = BitVec.ofNat 32 j) :
    Host.gather along d p (ix2 n 0) = d (ix2 n j) := by
  unfold Host.gather
  refine congrArg d (funext fun a => Fin.ext ?_)
  match a with
  | ⟨0, _⟩ =>
    show along.start (ix2 n 0) p 0 + along.batchCoord (ix2 n 0) 0 + along.offCoord (ix2 n 0) 0 = n.val
    rw [along.start_batching _ _ 0 (by decide), along.offCoord_eq_zero _ 0 (by decide), Nat.zero_add, Nat.add_zero]
    rfl
  | ⟨1, _⟩ =>
    show along.start (ix2 n 0) p 1 + along.batchCoord (ix2 n 0) 1 + along.offCoord (ix2 n 0) 1 = j.val
    rw [along.batchCoord_eq_zero _ 1 (by decide), along.offCoord_eq_zero _ 1 (by decide), Nat.add_zero]
    unfold GatherDims.start
    rw [dif_pos (by decide), along_start, hp, toInt_column]
    show min j.val (512 - 1) = j.val
    have := j.isLt
    omega

/-- A column number lies between 0 and 511, read as a signed word. -/
theorem column_ge : ∀ j : Fin 512, IntOp.cmpi .sge (BitVec.ofNat 32 j.val) 0#32 = 1#1 := by decide +kernel
theorem column_le : ∀ j : Fin 512, IntOp.cmpi .sle (BitVec.ofNat 32 j.val) 511#32 = 1#1 := by decide +kernel

/-- Where the column numbers hold `j` at row `n`, the reference's entry at `n` is the matrix's entry `(n, j)`. -/
theorem entriesAt_apply (d : FVec Ideal S131072x512 .f32) (p : IVec S131072x1x1 32) (n : Fin 131072) (j : Fin 512)
    (hp : p (ix3 n 0 0) = BitVec.ofNat 32 j) : entriesAt d p (ix2 n 0) = d (ix2 n j) := by
  pointwise [entriesAt]
  rw [gather_apply d p n j hp]
  have hx : ∀ x : Fin 1, IntOp.andi (IntOp.cmpi .sge (p (ix3 n 0 x)) 0#32) (IntOp.cmpi .sle (p (ix3 n 0 x)) 511#32)
      = 1#1 := fun x => by
    rw [Subsingleton.elim x 0, hp, column_ge, column_le]
    rfl
  rw [Finset.fold_congr (g := fun _ => 1#1) fun x _ => hx x]
  rfl

/-- A column number is not negative, so 512 is not added to it. -/
theorem column_kept : ∀ j : Fin 512, Scalar.select (IntOp.cmpi .slt (BitVec.ofNat 32 j.val) 0#32)
    (IntOp.addi (BitVec.ofNat 32 j.val) 512#32) (BitVec.ofNat 32 j.val) = BitVec.ofNat 32 j.val := by decide +kernel

/-- The matrix's entries at a vector of column numbers `i`, as the reference reads them. -/
def lookup (d : FVec Ideal S131072x512 .f32) (i : IVec S131072 32) : FVec Ideal S131072 .f32 :=
  shapeCast S131072
    (entriesAt d (shapeCast S131072x1x1
      (wrapped (broadcastInDim S131072x1 ![0] bcast_S131072_S131072x1_0 i)) shapeCasts_S131072x1_S131072x1x1))
    shapeCasts_S131072x1_S131072

/-- Where the vector holds `j` at row `n`, that is the matrix's entry `(n, j)`. -/
theorem lookup_apply (d : FVec Ideal S131072x512 .f32) (i : IVec S131072 32) (n : Fin 131072) (j : Fin 512)
    (hj : i (ix1 n) = BitVec.ofNat 32 j) : lookup d i (ix1 n) = d (ix2 n j) := by
  unfold lookup
  pointwise
  refine entriesAt_apply d _ n j ?_
  pointwise [wrapped]
  rw [hj]
  exact column_kept j

/-- The second result is those entries at the columns that the first result names. -/
theorem leastOf_def (d : FVec Ideal S131072x512 .f32) : leastOf d = lookup d (nearest d) := rfl

/-- The reference's results at point `n`: the word of a code at the least distance, and that distance. -/
theorem results (x : FVec Ideal S131072x32 .f32) (c : FVec Ideal S512x32 .f32) (n : Fin 131072) :
    ∃ j : Fin 512, nearest (distances x c) (ix1 n) = BitVec.ofNat 32 j
      ∧ leastOf (distances x c) (ix1 n) = distance (row x n) (row c j)
      ∧ distance (row x n) (row c j) = least fun k => distance (row x n) (row c k) := by
  obtain ⟨j, hj, hle⟩ := ArgMin.nearest_apply (distances x c) n
  simp only [distances_apply] at hle
  exact ⟨j, hj, (congrFun (leastOf_def _) (ix1 n)).trans ((lookup_apply _ _ n j hj).trans (distances_apply x c n j)),
    eq_least (fun k => distance (row x n) (row c k)) j hle⟩

end Cert.Proof.RefValue

end
-- ==== Proof.Mask.lean ====
/-
  What the claim's condition on a point says: one code alone lies at the point's least distance. It asks this of the
  first result alone; of the second it asks nothing.
-/
module

public import proofs.«01_k».proof.Defs
public import proofs.«01_k».proof.Proof.Gen.On_one_nearest
public import proofs.«01_k».proof.Proof.Block

@[expose] public section

set_option maxRecDepth 16384

noncomputable section

namespace Cert.Proof.Mask

open Cert.On_one_nearest Cert.On_one_nearest.Gen Cert.Proof.Nearest
open Cert.Proof.Block (row)
open Idealize.ShloMosaic

/-- A bit that is one is a truth. -/
theorem eq_true_of_bit {b : Bool} (h : BitVec.ofBool b = 1#1) : b = true := by
  cases b
  · exact absurd h (by decide)
  · rfl

/-- Where the condition holds at point `n`, one code is at the least distance, and any code at that distance is it. -/
theorem one_code (x : FVec Ideal ⟨2, ![131072, 32]⟩ .f32) (c : FVec Ideal ⟨2, ![512, 32]⟩ .f32) (n : Fin 131072)
    (h : (fn (F := Ideal) x c).1 (ix1 n) = 1#1) :
    ∃ j : Fin 512, distance (row x n) (row c j) = least (fun k => distance (row x n) (row c k))
      ∧ ∀ k, distance (row x n) (row c k) = least (fun k => distance (row x n) (row c k)) → k = j := by
  have e : (fn (F := Ideal) x c).1 (ix1 n) = BitVec.ofBool (decide
      ((∑ j : Fin 512, if distance (row x n) (row c j) = least (fun k => distance (row x n) (row c k))
        then (1 : EReal) else 0) = 1)) := by
    pointwise [fn, fn_part1, fn_where, id]
    rw [ofBits_inf]
    have hd : ∀ j : Fin 512, Ideal.sqrt (max (∑ k, x (ix2 n k) * x (ix2 n k) + ∑ k, c (ix2 j k) * c (ix2 j k)
        - Ideal.ofBits .f32 1073741824#32 * ∑ k, x (ix2 n k) * c (ix2 j k)) 0) = distance (row x n) (row c j) :=
      fun j => distance_eq _ _
    simp only [hd]
    rfl
  rw [e] at h
  exact unique_of_count _ (of_decide_eq_true (eq_true_of_bit h))

end Cert.Proof.Mask

end
-- ==== Proof.Equation.lean ====
/-
  The equation of the kernel and the reference at a point: the second results are equal everywhere, the first where one
  code alone is at the least distance.
-/
module

public import proofs.«01_k».proof.Proof.Arrays
public import proofs.«01_k».proof.Proof.RefValue
public import proofs.«01_k».proof.Proof.Mask

@[expose] public section

set_option maxRecDepth 16384

noncomputable section

namespace Cert.Proof.Equation

open Cert.Proof.RefRun Cert.Proof.Nearest Cert.Proof.Arrays
open Cert.Proof.Block (row)
open Idealize.ShloMosaic

variable (x : FVec Ideal ⟨2, ![131072, 32]⟩ .f32) (c : FVec Ideal ⟨2, ![512, 32]⟩ .f32) (n : Fin 131072)

/-- The least distance that the reference reads at point `n` is the kernel's. -/
theorem dist_eq : leastOf (distances x c) (ix1 n) = distAt c (row x n) := by
  obtain ⟨j, -, hv, hl⟩ := RefValue.results x c n
  exact hv.trans hl

/-- Where the condition holds at point `n`, the reference's index is the kernel's. -/
theorem index_eq (h : (Cert.On_one_nearest.fn (F := Ideal) x c).1 (ix1 n) = 1#1) :
    nearest (distances x c) (ix1 n) = indexAt c (row x n) := by
  obtain ⟨j, -, hu⟩ := Mask.one_code x c n h
  obtain ⟨k, hk, -, hl⟩ := RefValue.results x c n
  rw [hu k hl] at hk
  exact hk.trans (index_word (row x n) (row c) j hu).symm

end Cert.Proof.Equation

end
-- ==== Proof.lean ====
/-
  The certificate: the kernel and the reference run and leave their arguments as they were, with every counter back at
  zero; the kernel's idealization rewrites nothing; and, at the extended reals, the kernel's two results are the
  reference's: the least distance at every point, the index at every point whose least distance belongs to one code.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_one_nearest
public import proofs.«01_k».proof.Proof.RefRun
public import proofs.«01_k».proof.Proof.KernelRun
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The compiled kernel runs, leaves its arguments and returns every counter to zero. -/
theorem frame_kernel : Cert.quiescent_Kernel := fun m ρ _ => Cert.Kernel.Gen.frame m ρ

/-- So does its idealization, -/
theorem frame_ideal : Cert.quiescent_KernelIdeal := fun m ρ _ => Cert.KernelIdeal.Gen.frame m ρ

/-- and the reference. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (RefRun.run_main m ρ)

/-- The kernel's results are the reference's: the index where one code alone is nearest, the distance everywhere. -/
theorem results_equal : Cert.algebraic_KernelIdeal_ReferenceIdeal_on_one_nearest := by
  intro m ρ m' ρ' _ hargs
  refine ⟨fun c => RefRun.nearest (F := Ideal) (RefRun.distances (Arrays.X m c) (Arrays.C m c)),
    fun c => RefRun.leastOf (F := Ideal) (RefRun.distances (Arrays.X m c) (Arrays.C m c)), ?_, ?_⟩
  · refine (θ_run Cert.KernelIdeal.defs _ _).mono (fun r h c => ⟨fun i hi => ?_, fun i _ => ?_, (h c).2.2⟩)
      (KernelRun.run_main m ρ)
    · obtain ⟨n, rfl⟩ : ∃ n : Fin 131072, i = ix1 n := ⟨i 0, funext fun a => by rw [Subsingleton.elim a 0]; rfl⟩
      exact ((h c).1 n).trans (Equation.index_eq _ _ n hi).symm
    · obtain ⟨n, rfl⟩ : ∃ n : Fin 131072, i = ix1 n := ⟨i 0, funext fun a => by rw [Subsingleton.elim a 0]; rfl⟩
      exact ((h c).2.1 n).trans (Equation.dist_eq _ _ n).symm
  · refine (θ_run Cert.ReferenceIdeal.defs _ _).mono (fun r h c => ?_) (RefRun.run_main m' ρ')
    obtain ⟨h0, h1, h2⟩ := h c
    rw [(hargs c).1, (hargs c).2] at h0 h1
    exact ⟨fun i _ => congrFun h0 i, fun i _ => congrFun h1 i, h2⟩

theorem claim : Cert.Claim :=
  ⟨Cert.Kernel.Gen.facts, Cert.KernelIdeal.Gen.facts, Cert.ReferenceIdeal.Gen.facts, Cert.On_one_nearest.Gen.facts,
    frame_kernel, frame_ideal, frame_reference, trivial, results_equal⟩

end Cert.Proof

end
